-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x5120 : Shape := ⟨3, ![2, 8192, 5120]⟩
abbrev S2x8192x1 : Shape := ⟨3, ![2, 8192, 1]⟩
abbrev S5120x27648 : Shape := ⟨2, ![5120, 27648]⟩
abbrev S27648 : Shape := ⟨1, ![27648]⟩
abbrev S16384x5120 : Shape := ⟨2, ![16384, 5120]⟩
abbrev S16384x1 : Shape := ⟨2, ![16384, 1]⟩
abbrev S1x27648 : Shape := ⟨2, ![1, 27648]⟩
abbrev S16384x27648 : Shape := ⟨2, ![16384, 27648]⟩
abbrev S2048x5120 : Shape := ⟨2, ![2048, 5120]⟩
abbrev S2048x1 : Shape := ⟨2, ![2048, 1]⟩
abbrev S5120x1536 : Shape := ⟨2, ![5120, 1536]⟩
abbrev S1x1536 : Shape := ⟨2, ![1, 1536]⟩
abbrev S2048x1536 : Shape := ⟨2, ![2048, 1536]⟩
abbrev S1024x5120 : Shape := ⟨2, ![1024, 5120]⟩
abbrev S5120x512 : Shape := ⟨2, ![5120, 512]⟩
abbrev S1024x512 : Shape := ⟨2, ![1024, 512]⟩
abbrev S1024x1 : Shape := ⟨2, ![1024, 1]⟩
abbrev S1x512 : Shape := ⟨2, ![1, 512]⟩
abbrev S2x8192x27648 : Shape := ⟨3, ![2, 8192, 27648]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x5120, .fp8e4m3⟩
  | .hbm, ⟨1, _⟩ => ⟨S2x8192x1, .f32⟩
  | .hbm, ⟨2, _⟩ => ⟨S5120x27648, .fp8e4m3⟩
  | .hbm, ⟨3, _⟩ => ⟨S27648, .f32⟩
  | .hbm, ⟨4, _⟩ => ⟨S16384x5120, .fp8e4m3⟩
  | .hbm, ⟨5, _⟩ => ⟨S16384x1, .f32⟩
  | .hbm, ⟨6, _⟩ => ⟨S1x27648, .f32⟩
  | .hbm, ⟨7, _⟩ => ⟨S16384x27648, .bf16⟩
  | .hbm, ⟨8, _⟩ => ⟨S2x8192x27648, .bf16⟩
  | .local _ .vmem, ⟨0, _⟩ => ⟨S2048x5120, .fp8e4m3⟩
  | .local _ .vmem, ⟨1, _⟩ => ⟨S2048x5120, .fp8e4m3⟩
  | .local _ .vmem, ⟨2, _⟩ => ⟨S2048x1, .f32⟩
  | .local _ .vmem, ⟨3, _⟩ => ⟨S2048x1, .f32⟩
  | .local _ .vmem, ⟨4, _⟩ => ⟨S5120x1536, .fp8e4m3⟩
  | .local _ .vmem, ⟨5, _⟩ => ⟨S5120x1536, .fp8e4m3⟩
  | .local _ .vmem, ⟨6, _⟩ => ⟨S1x1536, .f32⟩
  | .local _ .vmem, ⟨7, _⟩ => ⟨S1x1536, .f32⟩
  | .local _ .vmem, ⟨8, _⟩ => ⟨S2048x1536, .bf16⟩
  | .local _ .vmem, ⟨9, _⟩ => ⟨S2048x1536, .bf16⟩
  | _, _ => ⟨S2x8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8192x5120 : Shape := ⟨3, ![2, 8192, 5120]⟩
abbrev S2x8192x1 : Shape := ⟨3, ![2, 8192, 1]⟩
abbrev S5120x27648 : Shape := ⟨2, ![5120, 27648]⟩
abbrev S27648 : Shape := ⟨1, ![27648]⟩
abbrev S2x8192x27648 : Shape := ⟨3, ![2, 8192, 27648]⟩
abbrev S1x1x27648 : Shape := ⟨3, ![1, 1, 27648]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x5120, .fp8e4m3⟩
  | .hbm, ⟨1, _⟩ => ⟨S2x8192x1, .f32⟩
  | .hbm, ⟨2, _⟩ => ⟨S5120x27648, .fp8e4m3⟩
  | .hbm, ⟨3, _⟩ => ⟨S27648, .f32⟩
  | .hbm, ⟨4, _⟩ => ⟨S2x8192x27648, .bf16⟩
  | .local _ .vmem, ⟨0, _⟩ => ⟨S2x8192x5120, .fp8e4m3⟩
  | .local _ .vmem, ⟨1, _⟩ => ⟨S2x8192x1, .f32⟩
  | .local _ .vmem, ⟨2, _⟩ => ⟨S5120x27648, .fp8e4m3⟩
  | .local _ .vmem, ⟨3, _⟩ => ⟨S27648, .f32⟩
  | .local _ .vmem, ⟨4, _⟩ => ⟨S2x8192x27648, .bf16⟩
  | _, _ => ⟨S2x8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x8192x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x27648 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27648 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x27648 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Entry.lean ====
/-
  ONE ENTRY OF THE SCALED PRODUCT, the number both programs are shown to leave at every index of their results: an inner
  product of a row of `x` with a column of `w`, times the row's scale, times the column's scale, in that order.
-/
module

public import Idealize.ShloMosaic.PureOps.Ideal

@[expose] public section

noncomputable section

namespace Cert.Entry

open Idealize.ShloMosaic
open scoped BigOperators

/-- The inner product of `a` and `b` over the extended reals, times `s`, times `t`. -/
def scaled {K : Nat} (a b : Fin K → EReal) (s t : EReal) : EReal := (∑ k, a k * b k) * s * t

/-- Equal factors give equal entries: the two vectors compared place by place, then the two scales. -/
theorem scaled_congr {K : Nat} {a a' b b' : Fin K → EReal} {s s' t t' : EReal} (ha : ∀ k, a k = a' k) (hb : ∀ k, b k = b' k)
    (hs : s = s') (ht : t = t') : scaled a b s t = scaled a' b' s' t' := by
  rw [funext ha, funext hb, hs, ht]

end Cert.Entry

end
-- ==== Proof.Block.lean ====
/-
  WHAT ONE GRID POINT OF THE KERNEL COMPUTES. The body cuts its block of the result, 2048 by 1536, into six tiles of
  1024 by 512, and stores each tile as one product over the whole contraction of 5120, scaled by the tile's column of
  row scales and its row of column scales. Here: the value of one tile at an index (`tile_apply`, the one place where the
  matrix product is opened), the six stored values as that one tile (`pay…_eq`), and so the whole block at an index
  (`block_apply`): the entry of row `y 0` of the block of `x` and column `y 1` of the block of `w`.
-/
module

public import proofs.«01_k».proof.Proof.Gen.KernelIdeal.Frame
public import proofs.«01_k».proof.Proof.Entry
public import Idealize.ShloMosaic.Lib.Pipeline.Value
public import Idealize.ShloMosaic.Lib.MatmulPlain

@[expose] public section

noncomputable section

namespace Cert.KernelIdeal.Block

open Cert.KernelIdeal Cert.KernelIdeal.Gen Cert.Entry
open Idealize.ShloMosaic Idealize.ShloMosaic.TcCoe Idealize.SL.Sem Idealize.ShloMosaic.ValueIdx

/-- THE VALUE OF ONE TILE at index `j`: the entry of row `j 0` of the rows loaded and column `j 1` of the columns loaded,
    with the row's scale and the column's scale. The change of format to bf16 is the identity on extended reals, and the
    product's accumulator starts at zero. -/
theorem tile_apply (x : Vec Ideal S1024x5120 .fp8e4m3) (w : Vec Ideal S5120x512 .fp8e4m3) (s : Vec Ideal S1024x1 .f32)
    (t : Vec Ideal S1x512 .f32) (j : S1024x512.Idx) :
    k0_pay3 x w s t j = scaled (K := 5120) (fun k => x (ix2 (j 0) k)) (fun k => w (ix2 k (j 1))) (s (ix2 (j 0) 0)) (t (ix2 0 (j 1))) := by
  have hd : dot_S1024x5120_S5120x512_S1024x512_1_0_0_1_n_n = DotDims.plain 1024 5120 512 := rfl
  have hm : FloatOps.matmul (F := Ideal) (φ₁ := .fp8e4m3) (φ₂ := .fp8e4m3) dot_S1024x5120_S5120x512_S1024x512_1_0_0_1_n_n none x w
      (constant S1024x512 .f32 0x00000000#32) j = ∑ k : Fin 5120, (x (ix2 (j 0) k) : EReal) * w (ix2 k (j 1)) := by
    obtain ⟨r, c, rfl⟩ : ∃ r c, j = ix2 r c := ⟨j 0, j 1, eq_ix2 j⟩
    rw [hd, Ideal.matmul_plain_apply]
    show Ideal.ofBits .f32 0x00000000#32 + _ = _
    rw [Ideal.ofBits_zero_f32, zero_add]
  have hs : broadcastTo S1024x512 s broadcasts_S1024x1_S1024x512 j = s (ix2 (j 0) 0) :=
    broadcastTo_apply s _ j _ fun a => match a with | ⟨0, _⟩ => rfl | ⟨1, _⟩ => rfl
  have ht : broadcastTo S1024x512 t broadcasts_S1x512_S1024x512 j = t (ix2 0 (j 1)) :=
    broadcastTo_apply t _ j _ fun a => match a with | ⟨0, _⟩ => rfl | ⟨1, _⟩ => rfl
  unfold k0_pay3 scaled
  simp only [shapeCast_self]
  rw [← hm, ← hs, ← ht]
  rfl

/-- The value stored to rows 0–1023, columns 512–1023 is the same function of its four loads. -/
theorem pay4_eq (x : Vec Ideal S1024x5120 .fp8e4m3) (w : Vec Ideal S5120x512 .fp8e4m3) (s : Vec Ideal S1024x1 .f32)
    (t : Vec Ideal S1x512 .f32) : k0_pay4 x w s t = k0_pay3 x w s t := rfl
/-- The value stored to rows 0–1023, columns 1024–1535 is the same function of its four loads. -/
theorem pay6_eq (x : Vec Ideal S1024x5120 .fp8e4m3) (w : Vec Ideal S5120x512 .fp8e4m3) (s : Vec Ideal S1024x1 .f32)
    (t : Vec Ideal S1x512 .f32) : k0_pay6 (k0_pay5 x) w s t = k0_pay3 x w s t := rfl
/-- The value stored to rows 1024–2047, columns 0–511 is the same function of its four loads. -/
theorem pay7_eq (x : Vec Ideal S1024x5120 .fp8e4m3) (w : Vec Ideal S5120x512 .fp8e4m3) (s : Vec Ideal S1024x1 .f32)
    (t : Vec Ideal S1x512 .f32) : k0_pay7 x w s t = k0_pay3 x w s t := rfl
/-- The value stored to rows 1024–2047, columns 512–1023 is the same function of its four loads. -/
theorem pay1_eq (x : Vec Ideal S1024x5120 .fp8e4m3) (w : Vec Ideal S5120x512 .fp8e4m3) (s : Vec Ideal S1024x1 .f32)
    (t : Vec Ideal S1x512 .f32) : k0_pay1 (k0_pay8 x w) (k0_pay9 s) t = k0_pay3 x w s t := rfl
/-- The value stored to rows 1024–2047, columns 1024–1535 is the same function of its four loads. -/
theorem pay2_eq (x : Vec Ideal S1024x5120 .fp8e4m3) (w : Vec Ideal S5120x512 .fp8e4m3) (s : Vec Ideal S1024x1 .f32)
    (t : Vec Ideal S1x512 .f32) : k0_pay2 x w s t = k0_pay3 x w s t := rfl

/-- The whole block as one function of the four input blocks: at `y`, the entry of row `y 0` and column `y 1`. -/
def block (x0 : Vec Ideal S2048x5120 .fp8e4m3) (x1 : Vec Ideal S2048x1 .f32) (x2 : Vec Ideal S5120x1536 .fp8e4m3)
    (x3 : Vec Ideal S1x1536 .f32) (y : S2048x1536.Idx) : EReal :=
  scaled (K := 5120) (fun k => x0 (ix2 (y 0) k)) (fun k => x2 (ix2 k (y 1))) (x1 (ix2 (y 0) 0)) (x3 (ix2 0 (y 1)))

/-- A TILE IS ITS PLACE IN THE BLOCK: the tile whose rows start at `p` and whose columns start at `q`, computed from the
    loads at those offsets, is at its index `j` the block at row `p + j 0` and column `q + j 1`. -/
theorem tile_at (x0 : Vec Ideal S2048x5120 .fp8e4m3) (x1 : Vec Ideal S2048x1 .f32) (x2 : Vec Ideal S5120x1536 .fp8e4m3)
    (x3 : Vec Ideal S1x1536 .f32) (p q : Nat) (h0 : ∀ a, ![p, 0] a + S1024x5120.size a ≤ S2048x5120.size a)
    (h1 : ∀ a, ![p, 0] a + S1024x1.size a ≤ S2048x1.size a) (h2 : ∀ a, ![0, q] a + S5120x512.size a ≤ S5120x1536.size a)
    (h3 : ∀ a, ![0, q] a + S1x512.size a ≤ S1x1536.size a) (h4 : ∀ a, ![p, q] a + S1024x512.size a ≤ S2048x1536.size a)
    (j : S1024x512.Idx) :
    k0_pay3 (View.ld x0 (Rect.unit (s := S2048x5120) ![p, 0] S1024x5120.size h0))
        (View.ld x2 (Rect.unit (s := S5120x1536) ![0, q] S5120x512.size h2))
        (View.ld x1 (Rect.unit (s := S2048x1) ![p, 0] S1024x1.size h1))
        (View.ld x3 (Rect.unit (s := S1x1536) ![0, q] S1x512.size h3)) j
      = block x0 x1 x2 x3 ((Rect.unit (s := S2048x1536) ![p, q] S1024x512.size h4).emb j) := by
  rw [tile_apply]
  refine scaled_congr (fun k => congrArg x0 ?_) (fun k => congrArg x2 ?_) (congrArg x1 ?_) (congrArg x3 ?_) <;>
    funext a <;> apply Fin.ext <;> match a with
    | ⟨0, _⟩ => simp [LoadRect.idx]
    | ⟨1, _⟩ => simp [LoadRect.idx]

/-- WHAT ONE POINT COMPUTES: the six stores, which together cover the block, leave at every index the block's entry. -/
theorem block_apply (x0 : Vec Ideal S2048x5120 .fp8e4m3) (x1 : Vec Ideal S2048x1 .f32) (x2 : Vec Ideal S5120x1536 .fp8e4m3)
    (x3 : Vec Ideal S1x1536 .f32) (y : S2048x1536.Idx) : out0_4 x0 x1 x2 x3 y = block x0 x1 x2 x3 y := by
  unfold out0_4
  refine View.canon_apply_of_pieces (Val := Elt Ideal) (e := .bf16) (block x0 x1 x2 x3) _ (fun p hp => ?_) y (cover0_4 _ _ _ _ _ _ y)
  simp only [List.mem_cons, List.not_mem_nil, or_false] at hp
  rcases hp with rfl | rfl | rfl | rfl | rfl | rfl
  · exact tile_at x0 x1 x2 x3 1024 1024 inb_S2048x5120_S1024x5120_1024_0 inb_S2048x1_S1024x1_1024_0 inb_S5120x1536_S5120x512_0_1024
      inb_S1x1536_S1x512_0_1024 inb_S2048x1536_S1024x512_1024_1024
  · exact tile_at x0 x1 x2 x3 1024 512 inb_S2048x5120_S1024x5120_1024_0 inb_S2048x1_S1024x1_1024_0 inb_S5120x1536_S5120x512_0_512
      inb_S1x1536_S1x512_0_512 inb_S2048x1536_S1024x512_1024_512
  · exact tile_at x0 x1 x2 x3 1024 0 inb_S2048x5120_S1024x5120_1024_0 inb_S2048x1_S1024x1_1024_0 inb_S5120x1536_S5120x512_0_0
      inb_S1x1536_S1x512_0_0 inb_S2048x1536_S1024x512_1024_0
  · exact tile_at x0 x1 x2 x3 0 1024 inb_S2048x5120_S1024x5120_0_0 inb_S2048x1_S1024x1_0_0 inb_S5120x1536_S5120x512_0_1024
      inb_S1x1536_S1x512_0_1024 inb_S2048x1536_S1024x512_0_1024
  · exact tile_at x0 x1 x2 x3 0 512 inb_S2048x5120_S1024x5120_0_0 inb_S2048x1_S1024x1_0_0 inb_S5120x1536_S5120x512_0_512
      inb_S1x1536_S1x512_0_512 inb_S2048x1536_S1024x512_0_512
  · exact tile_at x0 x1 x2 x3 0 0 inb_S2048x5120_S1024x5120_0_0 inb_S2048x1_S1024x1_0_0 inb_S5120x1536_S5120x512_0_0
      inb_S1x1536_S1x512_0_0 inb_S2048x1536_S1024x512_0_0

end Cert.KernelIdeal.Block

end
-- ==== Proof.KernelValue.lean ====
/-
  WHAT THE KERNEL'S RESULT HOLDS AFTER THE RUN. The grid is 8 by 18; point (i, j) reads block i of the rows and block j of
  the columns and writes block (i, j) of a 16384 by 27648 array. Here: each point writes back its block of ONE function of
  the arrays the pallas call reads (`flushed_eq`); the blocks cover the array (`cover`); so the array ends as that function
  (`final`), and the result, which is the array reshaped to batch by sequence by output, is read at an index as the entry of
  the arguments (`result_apply`); the run, read at the result and the arguments (`run`).
-/
module

public import proofs.«01_k».proof.Proof.Block
public import Idealize.ShloMosaic.Lib.StableHlo.Run

@[expose] public section

noncomputable section

namespace Cert.KernelIdeal.Result

open Cert.KernelIdeal Cert.KernelIdeal.Gen Cert.KernelIdeal.Block Cert.Entry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The array the pallas call writes -/

/-- The 16384 by 27648 array as one function of four arrays: at `i`, the entry of row `i 0` and column `i 1`. -/
def whole (X : Vec Ideal S16384x5120 .fp8e4m3) (S : Vec Ideal S16384x1 .f32) (W : Vec Ideal S5120x27648 .fp8e4m3)
    (T : Vec Ideal S1x27648 .f32) : Vec Ideal S16384x27648 .bf16 := fun i =>
  scaled (K := 5120) (fun k => X (ix2 (i 0) k)) (fun k => W (ix2 k (i 1))) (S (ix2 (i 0) 0)) (T (ix2 0 (i 1)))

/-- That function of the four arrays the pallas call of device `c` finds. -/
abbrev array (c : Dev nD) : Vec Ideal S16384x27648 .bf16 :=
  whole (V m c main_v0) (V m c main_v1) (V m c main_arg2) (V m c main_v2)

/-- Which block each window is on at a point, in terms of the point's two coordinates. -/
theorem index_facts (i : grid0.Coords) :
    cc0_transform_0 i = ![(i 0).val, 0] ∧ cc0_transform_1 i = ![(i 0).val, 0] ∧ cc0_transform_2 i = ![0, (i 1).val]
      ∧ cc0_transform_3 i = ![0, (i 1).val] ∧ cc0_transform_4 i = ![(i 0).val, (i 1).val] := by
  have h0 : (i 0).val < 8 := (i 0).isLt
  have h1 : (i 1).val < 18 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨?_, ?_, ?_, ?_, ?_⟩ <;>
    simp only [cc0_transform_0, cc0_transform_1, cc0_transform_2, cc0_transform_3, cc0_transform_4, e0, e1] <;> rfl

/-- WHAT POINT `t` WRITES BACK is block `t` of the one function of the arrays. -/
theorem flushed_eq (c : Dev nD) (t : Fin cfg0.N) :
    (dats m 0 c).flushed 4 t = ((cfg0.win 4).blk t).view.read (Elt Ideal) (array m c) := by
  show (cfg0.win 4).cut (grid0.coords t) ((dats m 0 c).after 4 t) = _
  rw [after0_4]
  funext y
  obtain ⟨f0, f1, f2, f3, f4⟩ := index_facts (grid0.coords t)
  show out0_4 (iblk m c 0 t) (iblk m c 1 t) (iblk m c 2 t) (iblk m c 3 t) y = array m c ((win0_4.rect t).emb y)
  rw [block_apply]
  refine scaled_congr (fun k => congrArg (V m c main_v0) ?_) (fun k => congrArg (V m c main_arg2) ?_)
    (congrArg (V m c main_v1) ?_) (congrArg (V m c main_v2) ?_) <;> funext a <;> apply Fin.ext
  · match a with
    | ⟨0, _⟩ => show cc0_transform_0 (grid0.coords t) 0 * 2048 + 1 * (y 0).val = cc0_transform_4 (grid0.coords t) 0 * 2048 + 1 * (y 0).val
                rw [f0, f4]; rfl
    | ⟨1, _⟩ => show cc0_transform_0 (grid0.coords t) 1 * 5120 + 1 * k.val = k.val
                rw [f0]; show 0 * 5120 + 1 * k.val = k.val; omega
  · match a with
    | ⟨0, _⟩ => show cc0_transform_2 (grid0.coords t) 0 * 5120 + 1 * k.val = k.val
                rw [f2]; show 0 * 5120 + 1 * k.val = k.val; omega
    | ⟨1, _⟩ => show cc0_transform_2 (grid0.coords t) 1 * 1536 + 1 * (y 1).val = cc0_transform_4 (grid0.coords t) 1 * 1536 + 1 * (y 1).val
                rw [f2, f4]; rfl
  · match a with
    | ⟨0, _⟩ => show cc0_transform_1 (grid0.coords t) 0 * 2048 + 1 * (y 0).val = cc0_transform_4 (grid0.coords t) 0 * 2048 + 1 * (y 0).val
                rw [f1, f4]; rfl
    | ⟨1, _⟩ => show cc0_transform_1 (grid0.coords t) 1 * 1 + 1 * 0 = 0
                rw [f1]; rfl
  · match a with
    | ⟨0, _⟩ => show cc0_transform_3 (grid0.coords t) 0 * 1 + 1 * 0 = 0
                rw [f3]; rfl
    | ⟨1, _⟩ => show cc0_transform_3 (grid0.coords t) 1 * 1536 + 1 * (y 1).val = cc0_transform_4 (grid0.coords t) 1 * 1536 + 1 * (y 1).val
                rw [f3, f4]; rfl

/-- An index of the array is in point `t`'s block when its row and its column are in the block's ranges. -/
theorem mem_blk (t : Fin cfg0.N) (i : S16384x27648.Idx) :
    i ∈ ((cfg0.win 4).blk t).view.set ↔
      ((grid0.coords t 0).val * 2048 ≤ (i 0).val ∧ (i 0).val < (grid0.coords t 0).val * 2048 + 2048)
        ∧ (grid0.coords t 1).val * 1536 ≤ (i 1).val ∧ (i 1).val < (grid0.coords t 1).val * 1536 + 1536 := by
  show i ∈ ((View.whole main_v3).slice (win0_4.rect t)).set ↔ _
  rw [View.set_slice_whole, Rect.mem_set_unit]
  have f4 := (index_facts (grid0.coords t)).2.2.2.2
  have e0 : win0_4.index t 0 = (grid0.coords t 0).val := congrFun f4 0
  have e1 : win0_4.index t 1 = (grid0.coords t 1).val := congrFun f4 1
  refine ⟨fun h => ⟨?_, ?_⟩, fun h a => ?_⟩
  · have := h 0
    change win0_4.index t 0 * 2048 ≤ (i 0).val ∧ (i 0).val < win0_4.index t 0 * 2048 + 2048 at this
    rw [e0] at this; exact this
  · have := h 1
    change win0_4.index t 1 * 1536 ≤ (i 1).val ∧ (i 1).val < win0_4.index t 1 * 1536 + 1536 at this
    rw [e1] at this; exact this
  · match a with
    | ⟨0, _⟩ => show win0_4.index t 0 * 2048 ≤ (i 0).val ∧ (i 0).val < win0_4.index t 0 * 2048 + 2048
                rw [e0]; exact h.1
    | ⟨1, _⟩ => show win0_4.index t 1 * 1536 ≤ (i 1).val ∧ (i 1).val < win0_4.index t 1 * 1536 + 1536
                rw [e1]; exact h.2

/-- Every pair of a row of blocks and a column of blocks is some grid point (decided over the 8 by 18 pairs). -/
theorem point_of : ∀ (a : Fin 8) (b : Fin 18), ∃ t : Fin grid0.N, (grid0.coords t 0).val = a.val ∧ (grid0.coords t 1).val = b.val := by
  decide +kernel

/-- THE BLOCKS COVER THE ARRAY: the index's row names the block row, its column the block column. -/
theorem cover (i : S16384x27648.Idx) :
    ∃ t : Fin cfg0.N, (cfg0.win 4).flush t = true ∧ i ∈ ((cfg0.win 4).blk t).view.set := by
  have h0 : (i 0).val < 16384 := (i 0).isLt
  have h1 : (i 1).val < 27648 := (i 1).isLt
  obtain ⟨t, e0, e1⟩ := point_of ⟨(i 0).val / 2048, by omega⟩ ⟨(i 1).val / 1536, by omega⟩
  refine ⟨t, flush0_4 t, ?_⟩
  rw [mem_blk, e0, e1]
  dsimp only
  omega

/-- So the array ends holding the one function of the arrays the pallas call found. -/
theorem final (c : Dev nD) : (dats m 0 c).arrAt 4 cfg0.N = array m c :=
  (dats m 0 c).arrAt_eq_of_cover 4 (array m c) (fun t _ => flushed_eq m c t) cover

/-! ## The host operations around it -/

/-- The row of the merged array that batch `b` and sequence place `s` name. -/
abbrev row (b : Fin 2) (s : Fin 8192) : Fin 16384 :=
  ⟨b.val * 8192 + s.val, by have := b.isLt; have := s.isLt; omega⟩

/-- Merging the first two axes: row `b * 8192 + s` of the merged array is row (b, s) of the operand. -/
theorem merge_apply {α : Type} {N : Nat} (X : (⟨3, ![2, 8192, N]⟩ : Shape).Idx → α)
    (h : (⟨3, ![2, 8192, N]⟩ : Shape).ShapeCasts ⟨2, ![16384, N]⟩) (b : Fin 2) (s : Fin 8192) (k : Fin N) :
    shapeCast ⟨2, ![16384, N]⟩ X h (ix2 (row b s) k) = X (ix3 b s k) :=
  shapeCast_apply _ _ _ _ (by rw [Shape.rowMajor_val_two, Shape.rowMajor_val_three]; rfl)

/-- Splitting the rows into two axes: place (b, s) of the result is row `b * 8192 + s` of the operand. -/
theorem split_apply {α : Type} {N : Nat} (X : (⟨2, ![16384, N]⟩ : Shape).Idx → α)
    (h : (⟨2, ![16384, N]⟩ : Shape).ShapeCasts ⟨3, ![2, 8192, N]⟩) (b : Fin 2) (s : Fin 8192) (k : Fin N) :
    shapeCast ⟨3, ![2, 8192, N]⟩ X h (ix3 b s k) = X (ix2 (row b s) k) :=
  shapeCast_apply _ _ _ _ (by rw [Shape.rowMajor_val_two, Shape.rowMajor_val_three]; rfl)

/-- A vector made the only row of a matrix keeps its places. -/
theorem row_apply {α : Type} {N : Nat} (X : (⟨1, ![N]⟩ : Shape).Idx → α)
    (h : (⟨1, ![N]⟩ : Shape).ShapeCasts ⟨2, ![1, N]⟩) (k : Fin N) :
    shapeCast ⟨2, ![1, N]⟩ X h (ix2 0 k) = X (ix1 k) :=
  shapeCast_apply _ _ _ _ (by
    rw [Shape.rowMajor_val_one, Shape.rowMajor_val_two]; show k.val = 0 * N + k.val; rw [Nat.zero_mul, Nat.zero_add])

/-- The pallas call finds `x` with its batch and sequence axes merged, -/
theorem V_v0 (c : Dev nD) : V m c main_v0
    = shapeCast S16384x5120 (m ((c : Thread nD τ).loc main_arg0) : Vec Ideal S2x8192x5120 .fp8e4m3) shapeCasts_S2x8192x5120_S16384x5120 := by
  show StableHlo.after (List.flatten [hostOps0]) (fun b => m (c, b)) (Proc.devRef .tc main_v0) = _
  simp only [hostOps0, List.flatten_cons, List.flatten_nil, List.append_nil]
  after_results
  rfl

/-- the row scales likewise, -/
theorem V_v1 (c : Dev nD) : V m c main_v1
    = shapeCast S16384x1 (m ((c : Thread nD τ).loc main_arg1) : Vec Ideal S2x8192x1 .f32) shapeCasts_S2x8192x1_S16384x1 := by
  show StableHlo.after (List.flatten [hostOps0]) (fun b => m (c, b)) (Proc.devRef .tc main_v1) = _
  simp only [hostOps0, List.flatten_cons, List.flatten_nil, List.append_nil]
  after_results
  rfl

/-- and the column scales as one row. -/
theorem V_v2 (c : Dev nD) : V m c main_v2
    = shapeCast S1x27648 (m ((c : Thread nD τ).loc main_arg3) : Vec Ideal S27648 .f32) shapeCasts_S27648_S1x27648 := by
  show StableHlo.after (List.flatten [hostOps0]) (fun b => m (c, b)) (Proc.devRef .tc main_v2) = _
  simp only [hostOps0, List.flatten_cons, List.flatten_nil, List.append_nil]
  after_results
  rfl

/-- The result on device `c`: the array, its rows split back into batch and sequence. -/
abbrev result (c : Dev nD) : Vec Ideal S2x8192x27648 .bf16 :=
  shapeCast S2x8192x27648 (array m c) shapeCasts_S16384x27648_S2x8192x27648

/-- The reshape after the pallas call leaves the result at the array's elements. -/
theorem tail (c : Dev nD) : Pipeline.afterTail₀ cfgs (dats m) 0 (V0 m) [hostOps1] c main_v4 = result m c := by
  unfold Pipeline.afterTail₀
  simp only [hostOps1, List.flatten_cons, List.flatten_nil, List.append_nil]
  after_results
  show shapeCast S2x8192x27648 (Pipeline.withArrays spec0 c (V0 m c) (fun w => (dats m 0 c).arrAt w cfg0.N) (Proc.devRef .tc (Pipeline.arrRef spec0 4)))
    shapeCasts_S16384x27648_S2x8192x27648 = _
  rw [Pipeline.withArrays_arr spec0 (by decide) c (V0 m c) (fun w => (dats m 0 c).arrAt w cfg0.N) 4, final]

/-- THE RESULT AT AN INDEX, in terms of the arguments: the inner product of row (batch, sequence) of `x` with column
    (output) of `w`, times that row's scale, times that column's scale. -/
theorem result_apply (c : Dev nD) (b : Fin 2) (s : Fin 8192) (n : Fin 27648) :
    result m c (ix3 b s n)
      = scaled (K := 5120) (fun k => (m ((c : Thread nD τ).loc main_arg0) : Vec Ideal S2x8192x5120 .fp8e4m3) (ix3 b s k))
          (fun k => (m ((c : Thread nD τ).loc main_arg2) : Vec Ideal S5120x27648 .fp8e4m3) (ix2 k n))
          ((m ((c : Thread nD τ).loc main_arg1) : Vec Ideal S2x8192x1 .f32) (ix3 b s 0))
          ((m ((c : Thread nD τ).loc main_arg3) : Vec Ideal S27648 .f32) (ix1 n)) := by
  unfold result
  rw [split_apply]
  refine scaled_congr (fun k => ?_) (fun k => ?_) ?_ ?_
  · rw [V_v0]; exact merge_apply _ _ b s k
  · rw [V_main_arg2]
  · rw [V_v1]; exact merge_apply _ _ b s 0
  · rw [V_v2]; exact row_apply _ _ n

/-! ## The run -/

/-- THE RUN, READ: the result as above on every device, the four arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.ReferenceValue.lean ====
/-
  WHAT THE REFERENCE COMPUTES. One pallas call with no grid: it reads the four arguments whole and writes the result in one
  store. Here: the stored value at an index (`value_apply`), that the result array ends as the stored value (`final`), and
  the run, read at the result and the arguments (`run`).
-/
module

public import proofs.«01_k».proof.Proof.Gen.ReferenceIdeal.Frame
public import proofs.«01_k».proof.Proof.Entry
public import Idealize.ShloMosaic.Lib.Pipeline.Value
public import Idealize.ShloMosaic.Lib.Pointwise.Contract
public import Idealize.ShloMosaic.Lib.ValueIdx
public import Idealize.ShloMosaic.PureOps.Ideal.Laws

@[expose] public section

noncomputable section

namespace Cert.ReferenceIdeal.Result

open Cert.ReferenceIdeal Cert.ReferenceIdeal.Gen Cert.Entry
open Idealize.ShloMosaic hiding ix1 ix2 ix3
open Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The reference's dimension numbers: the last axis of `x` against the first axis of `w`. -/
abbrev dims : DotDims S2x8192x5120 S5120x27648 S2x8192x27648 := dot_S2x8192x5120_S5120x27648_S2x8192x27648_2_0_01_1_n_n

/-- The matrix product at an index: the inner product of row (b, s) of `x` with column `n` of `w`. -/
theorem product_apply (x : Vec Ideal S2x8192x5120 .fp8e4m3) (w : Vec Ideal S5120x27648 .fp8e4m3) (b : Fin 2) (s : Fin 8192) (n : Fin 27648) :
    FloatOps.matmul (F := Ideal) (φ₁ := .fp8e4m3) (φ₂ := .fp8e4m3) dims none x w (constant S2x8192x27648 .f32 0x00000000#32) (ix3 b s n)
      = ∑ k : Fin 5120, (x (ix3 b s k) : EReal) * w (ix2 k n) := by
  rw [Ideal.matmul_constant_zero_apply, dims.sum_contr₁ (a := 2) rfl (K := 5120) rfl]
  refine Finset.sum_congr rfl fun k _ => ?_
  have el : dims.lhsIdx (ix3 b s n) (dims.contrIdx₁ (a := 2) rfl (K := 5120) rfl k) = ix3 b s k := by
    funext a; apply Fin.ext
    match a with
    | ⟨0, _⟩ => rfl
    | ⟨1, _⟩ => rfl
    | ⟨2, _⟩ => rfl
  have er : dims.rhsIdx (ix3 b s n) (dims.contrIdx₁ (a := 2) rfl (K := 5120) rfl k) = ix2 k n := by
    funext a; apply Fin.ext
    match a with
    | ⟨0, _⟩ => rfl
    | ⟨1, _⟩ => rfl
  rw [el, er]

/-- THE STORED VALUE AT AN INDEX: the entry of row (b, s) of `x` and column `n` of `w`, with the row's scale and the
    column's scale. The change of format to bf16 is the identity on extended reals. -/
theorem value_apply (x : Vec Ideal S2x8192x5120 .fp8e4m3) (w : Vec Ideal S5120x27648 .fp8e4m3) (xs : Vec Ideal S2x8192x1 .f32)
    (ws : Vec Ideal S27648 .f32) (b : Fin 2) (s : Fin 8192) (n : Fin 27648) :
    k0_pay1 x w xs ws (ix3 b s n)
      = scaled (K := 5120) (fun k => x (ix3 b s k)) (fun k => w (ix2 k n)) (xs (ix3 b s 0)) (ws (ix1 n)) := by
  have hs : broadcastTo S2x8192x27648 xs broadcasts_S2x8192x1_S2x8192x27648 (ix3 b s n) = xs (ix3 b s 0) :=
    broadcastTo_apply xs _ _ _ fun a => match a with | ⟨0, _⟩ => rfl | ⟨1, _⟩ => rfl | ⟨2, _⟩ => rfl
  have ht : broadcastTo S2x8192x27648 (shapeCast S1x1x27648 ws shapeCasts_S27648_S1x1x27648) broadcasts_S1x1x27648_S2x8192x27648 (ix3 b s n)
      = ws (ix1 n) := by
    rw [broadcastTo_apply (shapeCast S1x1x27648 ws shapeCasts_S27648_S1x1x27648) _ _ (ix3 0 0 n)
      fun a => match a with | ⟨0, _⟩ => rfl | ⟨1, _⟩ => rfl | ⟨2, _⟩ => rfl]
    exact shapeCast_apply _ _ _ _ (by
      rw [Shape.rowMajor_val_one, Shape.rowMajor_val_three]; show n.val = (0 * 1 + 0) * 27648 + n.val; omega)
  unfold k0_pay1 scaled
  rw [← product_apply, ← hs, ← ht]
  rfl

/-- The result on device `c`: the stored value of the four arguments. -/
abbrev result (c : Dev nD) : Vec Ideal S2x8192x27648 .bf16 :=
  k0_pay1 (F := Ideal) (m ((c : Thread nD τ).loc main_arg0)) (m ((c : Thread nD τ).loc main_arg2)) (m ((c : Thread nD τ).loc main_arg1))
    (m ((c : Thread nD τ).loc main_arg3))

/-- Zero offsets at rank 1, as the constant function. -/
theorem zero1 : (![0] : Fin 1 → Nat) = fun _ => 0 := funext fun a => by fin_cases a; rfl
/-- Zero offsets at rank 2, as the constant function. -/
theorem zero2 : (![0, 0] : Fin 2 → Nat) = fun _ => 0 := funext fun a => by fin_cases a <;> rfl
/-- Zero offsets at rank 3, as the constant function. -/
theorem zero3 : (![0, 0, 0] : Fin 3 → Nat) = fun _ => 0 := funext fun a => by fin_cases a <;> rfl

/-- What the one point leaves is the stored value of its four input blocks. -/
theorem out_eq (x0 : Vec Ideal S2x8192x5120 .fp8e4m3) (x1 : Vec Ideal S2x8192x1 .f32) (x2 : Vec Ideal S5120x27648 .fp8e4m3)
    (x3 : Vec Ideal S27648 .f32) : out0_4 x0 x1 x2 x3 = k0_pay1 x0 x2 x1 x3 := by
  unfold out0_4
  rw [View.canon_unit_zero zero3, View.ld_unit_zero zero3, View.ld_unit_zero zero2, View.ld_unit_zero zero3, View.ld_unit_zero zero1]

/-- WHAT THE ONE POINT WRITES BACK is the result, whose one block is the whole array. -/
theorem flushed_eq (c : Dev nD) (t : Fin cfg0.N) :
    (dats m 0 c).flushed 4 t = ((cfg0.win 4).blk t).view.read (Elt Ideal) (result m c) := by
  have i0 : iblk m c 0 t = m ((c : Thread nD τ).loc main_arg0) :=
    Memref.read_access_unit_zero (Elt Ideal) main_arg0 (funext fun a => Nat.zero_mul _) _ _
  have i1 : iblk m c 1 t = m ((c : Thread nD τ).loc main_arg1) :=
    Memref.read_access_unit_zero (Elt Ideal) main_arg1 (funext fun a => Nat.zero_mul _) _ _
  have i2 : iblk m c 2 t = m ((c : Thread nD τ).loc main_arg2) :=
    Memref.read_access_unit_zero (Elt Ideal) main_arg2 (funext fun a => Nat.zero_mul _) _ _
  have i3 : iblk m c 3 t = m ((c : Thread nD τ).loc main_arg3) :=
    Memref.read_access_unit_zero (Elt Ideal) main_arg3 (funext fun a => Nat.zero_mul _) _ _
  show (cfg0.win 4).cut (grid0.coords t) ((dats m 0 c).after 4 t) = _
  rw [after0_4, out_eq, i0, i1, i2, i3]
  exact (Memref.read_access_unit_zero (Elt Ideal) main_v0 (funext fun a => Nat.zero_mul _) _ _).symm

/-- Every index of the result array is in the one block. -/
theorem cover (i : S2x8192x27648.Idx) :
    ∃ t : Fin cfg0.N, (cfg0.win 4).flush t = true ∧ i ∈ ((cfg0.win 4).blk t).view.set := by
  have hN : 0 < cfg0.N := by rw [show cfg0.N = 1 from N_0]; exact Nat.one_pos
  have key (t : Fin cfg0.N) : i ∈ ((cfg0.win 4).blk t).view.set := by
    show i ∈ ((View.whole main_v0).slice (win0_4.rect t)).set
    rw [View.set_slice_whole]
    exact View.mem_set_unit_zero (funext fun a => Nat.zero_mul _) _ i
  exact ⟨⟨0, hN⟩, flush0_4 _, key _⟩

/-- So the result array ends holding the stored value of the four arguments. -/
theorem final (c : Dev nD) : (dats m 0 c).arrAt 4 cfg0.N = result m c :=
  (dats m 0 c).arrAt_eq_of_cover 4 (result m c) (fun t _ => flushed_eq m c t) cover

/-- THE RUN, READ: the result as above on every device, the four arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩)
    (run_main m ρ)

end Cert.ReferenceIdeal.Result

end
-- ==== Proof.Equation.lean ====
/-
  THE EQUATION. From memories that agree on the four arguments the kernel's result and the reference's result are the same
  array: at every index both are one and the same entry of the arguments, so nothing is reordered and nothing is assumed of
  the arguments.
-/
module

public import proofs.«01_k».proof.Defs
public import proofs.«01_k».proof.Proof.KernelValue
public import proofs.«01_k».proof.Proof.ReferenceValue

@[expose] public section

noncomputable section

namespace Cert.Equation

open Cert.Entry
open Idealize.ShloMosaic Idealize.ShloMosaic.TcCoe Idealize.SL.Sem

/-- THE TWO RESULTS ARE EQUAL on device `c`, given that the two memories hold the same four arguments there. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Result.result m' c = Cert.KernelIdeal.Result.result m c := by
  funext i
  obtain ⟨b, s, n, rfl⟩ : ∃ (b : Fin 2) (s : Fin 8192) (n : Fin 27648), i = ValueIdx.ix3 b s n :=
    ⟨i 0, i 1, i 2, ValueIdx.eq_ix3 i⟩
  rw [Cert.KernelIdeal.Result.result_apply m c b s n]
  refine (Cert.ReferenceIdeal.Result.value_apply _ _ _ _ b s n).trans ?_
  exact scaled_congr (fun k => congrFun h0 _) (fun k => congrFun h2 _) (congrFun h1 _) (congrFun h3 _)

/-- THE ALGEBRAIC CLAIM: both programs run, end with equal results, and leave their arguments unchanged. -/
theorem algebraic : Cert.algebraic_KernelIdeal_ReferenceIdeal := by
  intro m g m' g' _ hagree
  refine ⟨fun c => Cert.KernelIdeal.Result.result m c, Cert.KernelIdeal.Result.run m g, ?_⟩
  exact (θ_run Cert.ReferenceIdeal.defs _ _).mono
    (fun _ h c => ⟨(h c).1.trans (results_eq m m' c (hagree c).1 (hagree c).2.1 (hagree c).2.2.1 (hagree c).2.2.2), (h c).2⟩)
    (Cert.ReferenceIdeal.Result.run m' g')

end Cert.Equation

end
-- ==== Proof.lean ====
/-
  The proof of `Cert.Claim` (proofs.«01_k».proof.Defs). The three frames are the generated ones; the ideal pass rewrote
  nothing, so `preserves` is `True`; the algebraic claim is Proof/Equation.lean's, over Proof/KernelValue.lean (what the
  kernel's result holds) and Proof/ReferenceValue.lean (what the reference's result holds).
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Equation
public import Idealize.ShloMosaic.Adequacy
public import Idealize.ShloMosaic.Init

@[expose] public section

noncomputable section

namespace Cert.Proof

/-- EVERY CLAIM, in the order Defs.lean lists them: the three frames, `preserves`, the algebraic claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Equation.algebraic⟩

end Cert.Proof

end
